-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x4096 : Shape := ⟨3, ![2, 8192, 4096]⟩
abbrev S2x8192x32 : Shape := ⟨3, ![2, 8192, 32]⟩
abbrev S4096x7168 : Shape := ⟨2, ![4096, 7168]⟩
abbrev S32x56 : Shape := ⟨2, ![32, 56]⟩
abbrev S2x8192x7168 : Shape := ⟨3, ![2, 8192, 7168]⟩
abbrev S16384x4096 : Shape := ⟨2, ![16384, 4096]⟩
abbrev S16384x32 : Shape := ⟨2, ![16384, 32]⟩
abbrev S16384x7168 : Shape := ⟨2, ![16384, 7168]⟩
abbrev S1024x4096 : Shape := ⟨2, ![1024, 4096]⟩
abbrev S1024x32 : Shape := ⟨2, ![1024, 32]⟩
abbrev S4096x512 : Shape := ⟨2, ![4096, 512]⟩
abbrev S1024x512 : Shape := ⟨2, ![1024, 512]⟩
abbrev S1024x128 : Shape := ⟨2, ![1024, 128]⟩
abbrev S1024x1 : Shape := ⟨2, ![1024, 1]⟩
abbrev S1x1 : Shape := ⟨2, ![1, 1]⟩
abbrev S128x128 : Shape := ⟨2, ![128, 128]⟩
abbrev S128x512 : Shape := ⟨2, ![128, 512]⟩

abbrev nBuf : Space → Nat
  | .hbm => 10
  | .vmem => 11
  | .smem => 1
  | _ => 0

abbrev bufTy : (tb : Table) → Fin (tcTables nBuf tb) → BufTy
  | .hbm, ⟨0, _⟩ => ⟨S2x8192x4096, .fp8e4m3⟩
  | .hbm, ⟨1, _⟩ => ⟨S2x8192x32, .f32⟩
  | .hbm, ⟨2, _⟩ => ⟨S4096x7168, .fp8e4m3⟩
  | .hbm, ⟨3, _⟩ => ⟨S32x56, .f32⟩
  | .hbm, ⟨4, _⟩ => ⟨S2x8192x7168, .bf16⟩
  | .hbm, ⟨5, _⟩ => ⟨S16384x4096, .fp8e4m3⟩
  | .hbm, ⟨6, _⟩ => ⟨S16384x32, .f32⟩
  | .hbm, ⟨7, _⟩ => ⟨S16384x7168, .bf16⟩
  | .hbm, ⟨8, _⟩ => ⟨S16384x7168, .bf16⟩
  | .hbm, ⟨9, _⟩ => ⟨S2x8192x7168, .bf16⟩
  | .local _ .vmem, ⟨0, _⟩ => ⟨S1024x4096, .fp8e4m3⟩
  | .local _ .vmem, ⟨1, _⟩ => ⟨S1024x4096, .fp8e4m3⟩
  | .local _ .vmem, ⟨2, _⟩ => ⟨S1024x32, .f32⟩
  | .local _ .vmem, ⟨3, _⟩ => ⟨S1024x32, .f32⟩
  | .local _ .vmem, ⟨4, _⟩ => ⟨S4096x512, .fp8e4m3⟩
  | .local _ .vmem, ⟨5, _⟩ => ⟨S4096x512, .fp8e4m3⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x4096, .bf16⟩
  | .local _ .smem, ⟨0, _⟩ => ⟨S32x56, .f32⟩
  | _, _ => ⟨S2x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 14], ![false, false]⟩

def k0_off1 (i : grid0.Coords) (c0_i32_1 : BitVec 32) : Fin 2 → Nat :=
  let c0 : Index := 0#32
  let arg1 : BitVec 32 := BitVec.ofNat 32 (i 1).val
  let c4_i32 : BitVec 32 := 4#32
  let v3 : BitVec 32 := Scalar.muli arg1 c4_i32
  let v4 : BitVec 32 := Scalar.addi v3 c0_i32_1
  let v5 : Index := Scalar.indexCast v4
  ![0, v5.toNat]
def k0_off2 (i : grid0.Coords) (c0_i32_14 : BitVec 32) : Fin 2 → Nat :=
  let c1 : Index := 1#32
  let arg1 : BitVec 32 := BitVec.ofNat 32 (i 1).val
  let c4_i32_13 : BitVec 32 := 4#32
  let v40 : BitVec 32 := Scalar.muli arg1 c4_i32_13
  let v41 : BitVec 32 := Scalar.addi v40 c0_i32_14
  let v42 : Index := Scalar.indexCast v41
  ![1, v42.toNat]
def k0_off3 (i : grid0.Coords) (c0_i32_33 : BitVec 32) : Fin 2 → Nat :=
  let c2 : Index := 2#32
  let arg1 : BitVec 32 := BitVec.ofNat 32 (i 1).val
  let c4_i32_32 : BitVec 32 := 4#32
  let v77 : BitVec 32 := Scalar.muli arg1 c4_i32_32
  let v78 : BitVec 32 := Scalar.addi v77 c0_i32_33
  let v79 : Index := Scalar.indexCast v78
  ![2, v79.toNat]
def k0_off4 (i : grid0.Coords) (c0_i32_52 : BitVec 32) : Fin 2 → Nat :=
  let c3 : Index := 3#32
  let arg1 : BitVec 32 := BitVec.ofNat 32 (i 1).val
  let c4_i32_51 : BitVec 32 := 4#32
  let v114 : BitVec 32 := Scalar.muli arg1 c4_i32_51
  let v115 : BitVec 32 := Scalar.addi v114 c0_i32_52
  let v116 : Index := Scalar.indexCast v115
  ![3, v116.toNat]
def k0_off5 (i : grid0.Coords) (c0_i32_71 : BitVec 32) : Fin 2 → Nat :=
  let c4 : Index := 4#32
  let arg1 : BitVec 32 := BitVec.ofNat 32 (i 1).val
  let c4_i32_70 : BitVec 32 := 4#32
  let v151 : BitVec 32 := Scalar.muli arg1 c4_i32_70
  let v152 : BitVec 32 := Scalar.addi v151 c0_i32_71
  let v153 : Index := Scalar.indexCast v152
  ![4, v153.toNat]
def k0_off6 (i : grid0.Coords) (c0_i32_89 : BitVec 32) : Fin 2 → Nat :=
  let c5 : Index := 5#32
  let arg1 : BitVec 32 := BitVec.ofNat 32 (i 1).val
  let c4_i32_88 : BitVec 32 := 4#32
  let v188 : BitVec 32 := Scalar.muli arg1 c4_i32_88
  let v189 : BitVec 32 := Scalar.addi v188 c0_i32_89
  let v190 : Index := Scalar.indexCast v189
  ![5, v190.toNat]
def k0_off7 (i : grid0.Coords) (c0_i32_107 : BitVec 32) : Fin 2 → Nat :=
  let c6 : Index := 6#32
  let arg1 : BitVec 32 := BitVec.ofNat 32 (i 1).val
  let c4_i32_106 : BitVec 32 := 4#32
  let v225 : BitVec 32 := Scalar.muli arg1 c4_i32_106
  let v226 : BitVec 32 := Scalar.addi v225 c0_i32_107
  let v227 : Index := Scalar.indexCast v226
  ![6, v227.toNat]
def k0_off8 (i : grid0.Coords) (c0_i32_125 : BitVec 32) : Fin 2 → Nat :=
  let c7 : Index := 7#32
  let arg1 : BitVec 32 := BitVec.ofNat 32 (i 1).val
  let c4_i32_124 : BitVec 32 := 4#32
  let v262 : BitVec 32 := Scalar.muli arg1 c4_i32_124
  let v263 : BitVec 32 := Scalar.addi v262 c0_i32_125
  let v264 : Index := Scalar.indexCast v263
  ![7, v264.toNat]
def k0_off9 (i : grid0.Coords) (c0_i32_143 : BitVec 32) : Fin 2 → Nat :=
  let c8 : Index := 8#32
  let arg1 : BitVec 32 := BitVec.ofNat 32 (i 1).val
  let c4_i32_142 : BitVec 32 := 4#32
  let v299 : BitVec 32 := Scalar.muli arg1 c4_i32_142
  let v300 : BitVec 32 := Scalar.addi v299 c0_i32_143
  let v301 : Index := Scalar.indexCast v300
  ![8, v301.toNat]
def k0_off10 (i : grid0.Coords) (c0_i32_161 : BitVec 32) : Fin 2 → Nat :=
  let c9 : Index := 9#32
  let arg1 : BitVec 32 := BitVec.ofNat 32 (i 1).val
  let c4_i32_160 : BitVec 32 := 4#32
  let v336 : BitVec 32 := Scalar.muli arg1 c4_i32_160
  let v337 : BitVec 32 := Scalar.addi v336 c0_i32_161
  let v338 : Index := Scalar.indexCast v337
  ![9, v338.toNat]
def k0_off11 (i : grid0.Coords) (c0_i32_179 : BitVec 32) : Fin 2 → Nat :=
  let c10 : Index := 10#32
  let arg1 : BitVec 32 := BitVec.ofNat 32 (i 1).val
  let c4_i32_178 : BitVec 32 := 4#32
  let v373 : BitVec 32 := Scalar.muli arg1 c4_i32_178
  let v374 : BitVec 32 := Scalar.addi v373 c0_i32_179
  let v375 : Index := Scalar.indexCast v374
  ![10, v375.toNat]
def k0_off12 (i : grid0.Coords) (c0_i32_197 : BitVec 32) : Fin 2 → Nat :=
  let c11 : Index := 11#32
  let arg1 : BitVec 32 := BitVec.ofNat 32 (i 1).val
  let c4_i32_196 : BitVec 32 := 4#32
  let v410 : BitVec 32 := Scalar.muli arg1 c4_i32_196
  let v411 : BitVec 32 := Scalar.addi v410 c0_i32_197
  let v412 : Index := Scalar.indexCast v411
  ![11, v412.toNat]
def k0_off13 (i : grid0.Coords) (c0_i32_215 : BitVec 32) : Fin 2 → Nat :=
  let c12 : Index := 12#32
  let arg1 : BitVec 32 := BitVec.ofNat 32 (i 1).val
  let c4_i32_214 : BitVec 32 := 4#32
  let v447 : BitVec 32 := Scalar.muli arg1 c4_i32_214
  let v448 : BitVec 32 := Scalar.addi v447 c0_i32_215
  let v449 : Index := Scalar.indexCast v448
  ![12, v449.toNat]
def k0_off14 (i : grid0.Coords) (c0_i32_233 : BitVec 32) : Fin 2 → Nat :=
  let c13 : Index := 13#32
  let arg1 : BitVec 32 := BitVec.ofNat 32 (i 1).val
  let c4_i32_232 : BitVec 32 := 4#32
  let v484 : BitVec 32 := Scalar.muli arg1 c4_i32_232
  let v485 : BitVec 32 := Scalar.addi v484 c0_i32_233
  let v486 : Index := Scalar.indexCast v485
  ![13, v486.toNat]
def k0_off15 (i : grid0.Coords) (c0_i32_251 : BitVec 32) : Fin 2 → Nat :=
  let c14 : Index := 14#32
  let arg1 : BitVec 32 := BitVec.ofNat 32 (i 1).val
  let c4_i32_250 : BitVec 32 := 4#32
  let v521 : BitVec 32 := Scalar.muli arg1 c4_i32_250
  let v522 : BitVec 32 := Scalar.addi v521 c0_i32_251
  let v523 : Index := Scalar.indexCast v522
  ![14, v523.toNat]
def k0_off16 (i : grid0.Coords) (c0_i32_269 : BitVec 32) : Fin 2 → Nat :=
  let c15 : Index := 15#32
  let arg1 : BitVec 32 := BitVec.ofNat 32 (i 1).val
  let c4_i32_268 : BitVec 32 := 4#32
  let v558 : BitVec 32 := Scalar.muli arg1 c4_i32_268
  let v559 : BitVec 32 := Scalar.addi v558 c0_i32_269
  let v560 : Index := Scalar.indexCast v559
  ![15, v560.toNat]
def k0_off17 (i : grid0.Coords) (c0_i32_287 : BitVec 32) : Fin 2 → Nat :=
  let c16 : Index := 16#32
  let arg1 : BitVec 32 := BitVec.ofNat 32 (i 1).val
  let c4_i32_286 : BitVec 32 := 4#32
  let v595 : BitVec 32 := Scalar.muli arg1 c4_i32_286
  let v596 : BitVec 32 := Scalar.addi v595 c0_i32_287
  let v597 : Index := Scalar.indexCast v596
  ![16, v597.toNat]
def k0_off18 (i : grid0.Coords) (c0_i32_305 : BitVec 32) : Fin 2 → Nat :=
  let c17 : Index := 17#32
  let arg1 : BitVec 32 := BitVec.ofNat 32 (i 1).val
  let c4_i32_304 : BitVec 32 := 4#32
  let v632 : BitVec 32 := Scalar.muli arg1 c4_i32_304
  let v633 : BitVec 32 := Scalar.addi v632 c0_i32_305
  let v634 : Index := Scalar.indexCast v633
  ![17, v634.toNat]
def k0_off19 (i : grid0.Coords) (c0_i32_323 : BitVec 32) : Fin 2 → Nat :=
  let c18 : Index := 18#32
  let arg1 : BitVec 32 := BitVec.ofNat 32 (i 1).val
  let c4_i32_322 : BitVec 32 := 4#32
  let v669 : BitVec 32 := Scalar.muli arg1 c4_i32_322
  let v670 : BitVec 32 := Scalar.addi v669 c0_i32_323
  let v671 : Index := Scalar.indexCast v670
  ![18, v671.toNat]
def k0_off20 (i : grid0.Coords) (c0_i32_341 : BitVec 32) : Fin 2 → Nat :=
  let c19 : Index := 19#32
  let arg1 : BitVec 32 := BitVec.ofNat 32 (i 1).val
  let c4_i32_340 : BitVec 32 := 4#32
  let v706 : BitVec 32 := Scalar.muli arg1 c4_i32_340
  let v707 : BitVec 32 := Scalar.addi v706 c0_i32_341
  let v708 : Index := Scalar.indexCast v707
  ![19, v708.toNat]
def k0_off21 (i : grid0.Coords) (c0_i32_359 : BitVec 32) : Fin 2 → Nat :=
  let c20 : Index := 20#32
  let arg1 : BitVec 32 := BitVec.ofNat 32 (i 1).val
  let c4_i32_358 : BitVec 32 := 4#32
  let v743 : BitVec 32 := Scalar.muli arg1 c4_i32_358
  let v744 : BitVec 32 := Scalar.addi v743 c0_i32_359
  let v745 : Index := Scalar.indexCast v744
  ![20, v745.toNat]
def k0_off22 (i : grid0.Coords) (c0_i32_377 : BitVec 32) : Fin 2 → Nat :=
  let c21 : Index := 21#32
  let arg1 : BitVec 32 := BitVec.ofNat 32 (i 1).val
  let c4_i32_376 : BitVec 32 := 4#32
  let v780 : BitVec 32 := Scalar.muli arg1 c4_i32_376
  let v781 : BitVec 32 := Scalar.addi v780 c0_i32_377
  let v782 : Index := Scalar.indexCast v781
  ![21, v782.toNat]
def k0_off23 (i : grid0.Coords) (c0_i32_395 : BitVec 32) : Fin 2 → Nat :=
  let c22 : Index := 22#32
  let arg1 : BitVec 32 := BitVec.ofNat 32 (i 1).val
  let c4_i32_394 : BitVec 32 := 4#32
  let v817 : BitVec 32 := Scalar.muli arg1 c4_i32_394
  let v818 : BitVec 32 := Scalar.addi v817 c0_i32_395
  let v819 : Index := Scalar.indexCast v818
  ![22, v819.toNat]
def k0_off24 (i : grid0.Coords) (c0_i32_413 : BitVec 32) : Fin 2 → Nat :=
  let c23 : Index := 23#32
  let arg1 : BitVec 32 := BitVec.ofNat 32 (i 1).val
  let c4_i32_412 : BitVec 32 := 4#32
  let v854 : BitVec 32 := Scalar.muli arg1 c4_i32_412
  let v855 : BitVec 32 := Scalar.addi v854 c0_i32_413
  let v856 : Index := Scalar.indexCast v855
  ![23, v856.toNat]
def k0_off25 (i : grid0.Coords) (c0_i32_431 : BitVec 32) : Fin 2 → Nat :=
  let c24 : Index := 24#32
  let arg1 : BitVec 32 := BitVec.ofNat 32 (i 1).val
  let c4_i32_430 : BitVec 32 := 4#32
  let v891 : BitVec 32 := Scalar.muli arg1 c4_i32_430
  let v892 : BitVec 32 := Scalar.addi v891 c0_i32_431
  let v893 : Index := Scalar.indexCast v892
  ![24, v893.toNat]
def k0_off26 (i : grid0.Coords) (c0_i32_449 : BitVec 32) : Fin 2 → Nat :=
  let c25 : Index := 25#32
  let arg1 : BitVec 32 := BitVec.ofNat 32 (i 1).val
  let c4_i32_448 : BitVec 32 := 4#32
  let v928 : BitVec 32 := Scalar.muli arg1 c4_i32_448
  let v929 : BitVec 32 := Scalar.addi v928 c0_i32_449
  let v930 : Index := Scalar.indexCast v929
  ![25, v930.toNat]
def k0_off27 (i : grid0.Coords) (c0_i32_467 : BitVec 32) : Fin 2 → Nat :=
  let c26 : Index := 26#32
  let arg1 : BitVec 32 := BitVec.ofNat 32 (i 1).val
  let c4_i32_466 : BitVec 32 := 4#32
  let v965 : BitVec 32 := Scalar.muli arg1 c4_i32_466
  let v966 : BitVec 32 := Scalar.addi v965 c0_i32_467
  let v967 : Index := Scalar.indexCast v966
  ![26, v967.toNat]
def k0_off28 (i : grid0.Coords) (c0_i32_485 : BitVec 32) : Fin 2 → Nat :=
  let c27 : Index := 27#32
  let arg1 : BitVec 32 := BitVec.ofNat 32 (i 1).val
  let c4_i32_484 : BitVec 32 := 4#32
  let v1002 : BitVec 32 := Scalar.muli arg1 c4_i32_484
  let v1003 : BitVec 32 := Scalar.addi v1002 c0_i32_485
  let v1004 : Index := Scalar.indexCast v1003
  ![27, v1004.toNat]
def k0_off29 (i : grid0.Coords) (c0_i32_503 : BitVec 32) : Fin 2 → Nat :=
  let c28 : Index := 28#32
  let arg1 : BitVec 32 := BitVec.ofNat 32 (i 1).val
  let c4_i32_502 : BitVec 32 := 4#32
  let v1039 : BitVec 32 := Scalar.muli arg1 c4_i32_502
  let v1040 : BitVec 32 := Scalar.addi v1039 c0_i32_503
  let v1041 : Index := Scalar.indexCast v1040
  ![28, v1041.toNat]
def k0_off30 (i : grid0.Coords) (c0_i32_521 : BitVec 32) : Fin 2 → Nat :=
  let c29 : Index := 29#32
  let arg1 : BitVec 32 := BitVec.ofNat 32 (i 1).val
  let c4_i32_520 : BitVec 32 := 4#32
  let v1076 : BitVec 32 := Scalar.muli arg1 c4_i32_520
  let v1077 : BitVec 32 := Scalar.addi v1076 c0_i32_521
  let v1078 : Index := Scalar.indexCast v1077
  ![29, v1078.toNat]
def k0_off31 (i : grid0.Coords) (c0_i32_539 : BitVec 32) : Fin 2 → Nat :=
  let c30 : Index := 30#32
  let arg1 : BitVec 32 := BitVec.ofNat 32 (i 1).val
  let c4_i32_538 : BitVec 32 := 4#32
  let v1113 : BitVec 32 := Scalar.muli arg1 c4_i32_538
  let v1114 : BitVec 32 := Scalar.addi v1113 c0_i32_539
  let v1115 : Index := Scalar.indexCast v1114
  ![30, v1115.toNat]
def k0_off32 (i : grid0.Coords) (c0_i32_557 : BitVec 32) : Fin 2 → Nat :=
  let c31 : Index := 31#32
  let arg1 : BitVec 32 := BitVec.ofNat 32 (i 1).val
  let c4_i32_556 : BitVec 32 := 4#32
  let v1150 : BitVec 32 := Scalar.muli arg1 c4_i32_556
  let v1151 : BitVec 32 := Scalar.addi v1150 c0_i32_557
  let v1152 : Index := Scalar.indexCast v1151
  ![31, v1152.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S32x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x8192x4096 : Shape := ⟨3, ![2, 8192, 4096]⟩
abbrev S2x8192x32 : Shape := ⟨3, ![2, 8192, 32]⟩
abbrev S4096x7168 : Shape := ⟨2, ![4096, 7168]⟩
abbrev S32x56 : Shape := ⟨2, ![32, 56]⟩
abbrev S2x8192x7168 : Shape := ⟨3, ![2, 8192, 7168]⟩
abbrev S2x8192x32x128 : Shape := ⟨4, ![2, 8192, 32, 128]⟩
abbrev S2x8192x32x1 : Shape := ⟨4, ![2, 8192, 32, 1]⟩
abbrev S32x128x56x128 : Shape := ⟨4, ![32, 128, 56, 128]⟩
abbrev S32x1x56x1 : Shape := ⟨4, ![32, 1, 56, 1]⟩

abbrev nBuf : Space → Nat
  | .hbm => 23
  | .vmem => 4
  | .smem => 0
  | _ => 0

abbrev bufTy : (tb : Table) → Fin (tcTables nBuf tb) → BufTy
  | .hbm, ⟨0, _⟩ => ⟨S2x8192x4096, .fp8e4m3⟩
  | .hbm, ⟨1, _⟩ => ⟨S2x8192x32, .f32⟩
  | .hbm, ⟨2, _⟩ => ⟨S4096x7168, .fp8e4m3⟩
  | .hbm, ⟨3, _⟩ => ⟨S32x56, .f32⟩
  | .hbm, ⟨4, _⟩ => ⟨S2x8192x7168, .bf16⟩
  | .hbm, ⟨5, _⟩ => ⟨S2x8192x4096, .bf16⟩
  | .hbm, ⟨6, _⟩ => ⟨S4096x7168, .bf16⟩
  | .hbm, ⟨7, _⟩ => ⟨S2x8192x32x128, .bf16⟩
  | .hbm, ⟨8, _⟩ => ⟨S2x8192x32, .bf16⟩
  | .hbm, ⟨9, _⟩ => ⟨S2x8192x32x1, .bf16⟩
  | .hbm, ⟨10, _⟩ => ⟨S2x8192x32x128, .bf16⟩
  | .hbm, ⟨11, _⟩ => ⟨S2x8192x32x128, .bf16⟩
  | .hbm, ⟨12, _⟩ => ⟨S2x8192x4096, .bf16⟩
  | .hbm, ⟨13, _⟩ => ⟨S32x128x56x128, .bf16⟩
  | .hbm, ⟨14, _⟩ => ⟨S32x56, .bf16⟩
  | .hbm, ⟨15, _⟩ => ⟨S32x1x56x1, .bf16⟩
  | .hbm, ⟨16, _⟩ => ⟨S32x128x56x128, .bf16⟩
  | .hbm, ⟨17, _⟩ => ⟨S32x128x56x128, .bf16⟩
  | .hbm, ⟨18, _⟩ => ⟨S4096x7168, .bf16⟩
  | .hbm, ⟨19, _⟩ => ⟨S2x8192x7168, .f32⟩
  | .hbm, ⟨20, _⟩ => ⟨S2x8192x7168, .f32⟩
  | .hbm, ⟨21, _⟩ => ⟨S2x8192x7168, .f32⟩
  | .hbm, ⟨22, _⟩ => ⟨S2x8192x7168, .bf16⟩
  | .local _ .vmem, ⟨0, _⟩ => ⟨S2x8192x4096, .fp8e4m3⟩
  | .local _ .vmem, ⟨1, _⟩ => ⟨S4096x7168, .fp8e4m3⟩
  | .local _ .vmem, ⟨2, _⟩ => ⟨S2x8192x4096, .bf16⟩
  | .local _ .vmem, ⟨3, _⟩ => ⟨S4096x7168, .bf16⟩
  | _, _ => ⟨S2x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x8192x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8192x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Weights.lean ====
module

public import proofs.«01_k».proof.Proof.Gen.KernelIdeal.Skeleton
public import Idealize.ShloMosaic.Lib.Pipeline.ValueKit
public import Idealize.ShloMosaic.Lib.Pointwise

/-!
  The weight tile that the kernel builds at a grid point: at every index a code times the scale of its 128 by 128 block.
-/

@[expose] public section

set_option maxRecDepth 16384

noncomputable section

namespace Cert.KernelValue

open Idealize.ShloMosaic Idealize.ShloMosaic.TcCoe Idealize.SL.Sem
open Cert.KernelIdeal

/-- The dequantized weight tile of column tile `p`: every code times the scale of the 128 x 128 group that it lies in. -/
def wdeq (x0 : Vec Ideal S32x56 .f32) (x3 : Vec Ideal S4096x512 .fp8e4m3) (p : Fin 14) (k : Fin 4096) (n : Fin 512) : EReal :=
  (x3 (ix2 k n) : EReal) * (x0 (ix2 ⟨k.val / 128, by omega⟩ ⟨p.val * 4 + n.val / 128, by omega⟩) : EReal)

/-- One 128 x 128 block of codes times its scale, as the kernel writes it. -/
def blockW (v : Elt Ideal .f32) (w : Vec Ideal S128x128 .fp8e4m3) : FVec Ideal S128x128 .bf16 :=
  mulf (extf .bf16 w Gen.bitsLt_fp8e4m3_bf16) (truncf .bf16 (broadcast S128x128 v) Gen.bitsLt_bf16_f32)

/-- Four blocks side by side: one band of 128 rows of the weight tile. -/
def bandW (v0 : Elt Ideal .f32) (w0 : Vec Ideal S128x128 .fp8e4m3) (v1 : Elt Ideal .f32) (w1 : Vec Ideal S128x128 .fp8e4m3)
    (v2 : Elt Ideal .f32) (w2 : Vec Ideal S128x128 .fp8e4m3) (v3 : Elt Ideal .f32) (w3 : Vec Ideal S128x128 .fp8e4m3) :
    FVec Ideal S128x512 .bf16 :=
  concatenate S128x512 1 [⟨S128x128, blockW v0 w0⟩, ⟨S128x128, blockW v1 w1⟩, ⟨S128x128, blockW v2 w2⟩, ⟨S128x128, blockW v3 w3⟩]
    Gen.concatenates_S128x128_S128x128_S128x128_S128x128_S128x512_d1

/-- A block at an index: the code there times the block's scale. -/
theorem blockW_apply (v : Elt Ideal .f32) (w : Vec Ideal S128x128 .fp8e4m3) (j : S128x128.Idx) :
    (blockW v w j : EReal) = (w j : EReal) * (v : EReal) := by
  pointwise [blockW]

/-- A band at an index: block `(j 1) / 128` at column `(j 1) % 128`. -/
theorem bandW_apply (v : Fin 4 → Elt Ideal .f32) (w : Fin 4 → Vec Ideal S128x128 .fp8e4m3) (r : Fin 128) (n : Fin 512) :
    (bandW (v 0) (w 0) (v 1) (w 1) (v 2) (w 2) (v 3) (w 3) (ix2 r n) : EReal)
      = (w ⟨n.val / 128, by omega⟩ (ix2 r ⟨n.val % 128, by omega⟩) : EReal) * (v ⟨n.val / 128, by omega⟩ : EReal) := by
  rw [← blockW_apply]
  exact concatenate_ofFn_apply (t := S128x512) (s₁ := S128x128) 1 (fun b : Fin 4 => blockW (v b) (w b))
    Gen.concatenates_S128x128_S128x128_S128x128_S128x128_S128x512_d1 rfl 128 rfl (ix2 r n) ⟨n.val / 128, by omega⟩ rfl
    (ix2 r ⟨n.val % 128, by omega⟩) rfl (by
      intro b hb
      match b with
      | ⟨0, _⟩ => rfl
      | ⟨1, _⟩ => exact absurd rfl hb)

/-- The column of the scale table that a block of column tile `p` reads, from the word that the kernel computes. -/
theorem scale_col (p : Fin 14) (w : BitVec 32) (hw : w.toNat < 4) :
    (Scalar.indexCast (Scalar.addi (Scalar.muli (BitVec.ofNat 32 p.val) 4#32) w)).toNat = p.val * 4 + w.toNat := by
  have hp := p.isLt
  simp only [Scalar.indexCast, Scalar.addi, Scalar.muli, IntOp.addi, IntOp.muli]
  bv_omega

/-- The offsets of a scale word: row `g`, column `4 p + w`. -/
theorem scale_off (g : Nat) (p : Fin 14) (w : BitVec 32) (hw : w.toNat < 4) :
    ![g, (Scalar.indexCast (Scalar.addi (Scalar.muli (BitVec.ofNat 32 p.val) 4#32) w)).toNat] = ![g, p.val * 4 + w.toNat] := by
  rw [scale_col p w hw]

/-- A load of one word of the scale table: the word at the coordinates that the offsets name. -/
theorem scale_load (x0 : Vec Ideal S32x56 .f32) (p : Fin 14) (g : Fin 32) (b : Fin 4) (o : Fin 2 → Nat)
    (ho : o = ![g.val, p.val * 4 + b.val]) (hi) (hf) :
    View.ld x0 (Rect.unit (s := S32x56) o S1x1.size hi) (Shape.Idx.first hf)
      = x0 (ix2 g ⟨p.val * 4 + b.val, by omega⟩) := by
  subst ho
  refine View.ld_unit_apply_of x0 _ _ _ _ _ fun a => ?_
  match a with
  | ⟨0, _⟩ => rfl
  | ⟨1, _⟩ => rfl

/-- A load of one 128 x 128 block of weight codes, at an index. -/
theorem codes_load (x3 : Vec Ideal S4096x512 .fp8e4m3) (g : Fin 32) (b : Fin 4) (o : Fin 2 → Nat)
    (ho : o = ![128 * g.val, 128 * b.val]) (hi) (r : Fin 128) (n : Fin 128) :
    View.ld x3 (Rect.unit (s := S4096x512) o S128x128.size hi) (ix2 r n)
      = x3 (ix2 ⟨128 * g.val + r.val, by omega⟩ ⟨128 * b.val + n.val, by omega⟩) := by
  subst ho
  refine View.ld_unit_apply_of x3 _ _ _ _ _ fun a => ?_
  match a with
  | ⟨0, _⟩ => rfl
  | ⟨1, _⟩ => rfl

/-- Band `g` of the dequantized weight tile, built by the kernel from four scale words and four blocks of codes. -/
theorem bandW_eq (x0 X0 : Vec Ideal S32x56 .f32) (e0 : X0 = x0) (x3 X3 : Vec Ideal S4096x512 .fp8e4m3) (e3 : X3 = x3)
    (p : Fin 14) (g : Fin 32) (o0 o1 o2 o3 q0 q1 q2 q3 : Fin 2 → Nat)
    (h0 : o0 = ![g.val, p.val * 4 + 0]) (h1 : o1 = ![g.val, p.val * 4 + 1])
    (h2 : o2 = ![g.val, p.val * 4 + 2]) (h3 : o3 = ![g.val, p.val * 4 + 3])
    (k0 : q0 = ![128 * g.val, 0]) (k1 : q1 = ![128 * g.val, 128])
    (k2 : q2 = ![128 * g.val, 256]) (k3 : q3 = ![128 * g.val, 384])
    (a0 a1 a2 a3 b0 b1 b2 b3 f0 f1 f2 f3) :
    bandW (View.ld X0 (Rect.unit (s := S32x56) o0 S1x1.size a0) (Shape.Idx.first f0))
        (View.ld X3 (Rect.unit (s := S4096x512) q0 S128x128.size b0))
        (View.ld X0 (Rect.unit (s := S32x56) o1 S1x1.size a1) (Shape.Idx.first f1))
        (View.ld X3 (Rect.unit (s := S4096x512) q1 S128x128.size b1))
        (View.ld X0 (Rect.unit (s := S32x56) o2 S1x1.size a2) (Shape.Idx.first f2))
        (View.ld X3 (Rect.unit (s := S4096x512) q2 S128x128.size b2))
        (View.ld X0 (Rect.unit (s := S32x56) o3 S1x1.size a3) (Shape.Idx.first f3))
        (View.ld X3 (Rect.unit (s := S4096x512) q3 S128x128.size b3))
      = fun j : S128x512.Idx => wdeq x0 x3 p ⟨128 * g.val + (j 0).val, by have : (j 0).val < 128 := (j 0).isLt; omega⟩ (j 1) := by
  subst e0 e3
  rw [scale_load X0 p g 0 o0 h0, scale_load X0 p g 1 o1 h1, scale_load X0 p g 2 o2 h2, scale_load X0 p g 3 o3 h3]
  funext j
  obtain ⟨r, n, rfl⟩ : ∃ (r : Fin 128) (n : Fin 512), j = ix2 r n := ⟨j 0, j 1, eq_ix2 j⟩
  refine (bandW_apply
    (fun b => X0 (ix2 g ⟨p.val * 4 + b.val, by omega⟩))
    ![View.ld X3 (Rect.unit (s := S4096x512) q0 S128x128.size b0), View.ld X3 (Rect.unit (s := S4096x512) q1 S128x128.size b1),
      View.ld X3 (Rect.unit (s := S4096x512) q2 S128x128.size b2), View.ld X3 (Rect.unit (s := S4096x512) q3 S128x128.size b3)]
    r n).trans ?_
  have hn : n.val < 512 := n.isLt
  have hr : r.val < 128 := r.isLt
  have hw : ∀ b : Fin 4, ∀ n' : Fin 128,
      (![View.ld X3 (Rect.unit (s := S4096x512) q0 S128x128.size b0), View.ld X3 (Rect.unit (s := S4096x512) q1 S128x128.size b1),
        View.ld X3 (Rect.unit (s := S4096x512) q2 S128x128.size b2), View.ld X3 (Rect.unit (s := S4096x512) q3 S128x128.size b3)]
        : Fin 4 → Vec Ideal S128x128 .fp8e4m3) b (ix2 r n')
      = X3 (ix2 ⟨128 * g.val + r.val, by omega⟩ ⟨128 * b.val + n'.val, by omega⟩) := by
    intro b n'
    match b with
    | ⟨0, _⟩ => exact codes_load X3 g 0 q0 k0 b0 r n'
    | ⟨1, _⟩ => exact codes_load X3 g 1 q1 k1 b1 r n'
    | ⟨2, _⟩ => exact codes_load X3 g 2 q2 k2 b2 r n'
    | ⟨3, _⟩ => exact codes_load X3 g 3 q3 k3 b3 r n'
  rw [hw]
  unfold wdeq
  congr 2
  · congr 1
    exact Fin.ext (by dsimp only [ix2_0, ix2_1]; omega)
  · congr 1
    exact Fin.ext (by dsimp only [ix2_0, ix2_1]; omega)

/-- The offsets of scale word `w` of row `g` of the table, in column tile `p`, as the kernel computes them. -/
def scaleAt (p : Fin 14) (g : Fin 32) (w : BitVec 32) : Fin 2 → Nat :=
  ![g.val, (Scalar.indexCast (Scalar.addi (Scalar.muli (BitVec.ofNat 32 p.val) 4#32) w)).toNat]

/-- They lie in the table. -/
theorem scale_inb (p : Fin 14) (g : Fin 32) (w : BitVec 32) (hw : w.toNat < 4) : ∀ a, scaleAt p g w a + S1x1.size a ≤ S32x56.size a := by
  unfold scaleAt
  rw [scale_col p w hw]
  intro a
  match a with
  | ⟨0, _⟩ => show g.val + 1 ≤ 32; omega
  | ⟨1, _⟩ => show p.val * 4 + w.toNat + 1 ≤ 56; omega

/-- Block `b` of band `g` lies in the block of codes. -/
theorem codes_inb (g : Fin 32) (b : Nat) (hb : b + 128 ≤ 512) : ∀ a, (![128 * g.val, b] : Fin 2 → Nat) a + S128x128.size a ≤ S4096x512.size a := by
  intro a
  match a with
  | ⟨0, _⟩ => show 128 * g.val + 128 ≤ 4096; omega
  | ⟨1, _⟩ => exact hb

/-- Band `g` of the weight tile of column tile `p`, as the kernel builds it from the scale table and a block of codes. -/
def bandAt (X0 : Vec Ideal S32x56 .f32) (X3 : Vec Ideal S4096x512 .fp8e4m3) (p : Fin 14) (g : Fin 32) : FVec Ideal S128x512 .bf16 :=
  bandW (View.ld X0 (Rect.unit (s := S32x56) (scaleAt p g 0#32) S1x1.size (scale_inb p g _ (by decide))) (Shape.Idx.first (show 0 < S1x1.numel by decide)))
    (View.ld X3 (Rect.unit (s := S4096x512) ![128 * g.val, 0] S128x128.size (codes_inb g _ (by decide))))
    (View.ld X0 (Rect.unit (s := S32x56) (scaleAt p g 1#32) S1x1.size (scale_inb p g _ (by decide))) (Shape.Idx.first (show 0 < S1x1.numel by decide)))
    (View.ld X3 (Rect.unit (s := S4096x512) ![128 * g.val, 128] S128x128.size (codes_inb g _ (by decide))))
    (View.ld X0 (Rect.unit (s := S32x56) (scaleAt p g 2#32) S1x1.size (scale_inb p g _ (by decide))) (Shape.Idx.first (show 0 < S1x1.numel by decide)))
    (View.ld X3 (Rect.unit (s := S4096x512) ![128 * g.val, 256] S128x128.size (codes_inb g _ (by decide))))
    (View.ld X0 (Rect.unit (s := S32x56) (scaleAt p g 3#32) S1x1.size (scale_inb p g _ (by decide))) (Shape.Idx.first (show 0 < S1x1.numel by decide)))
    (View.ld X3 (Rect.unit (s := S4096x512) ![128 * g.val, 384] S128x128.size (codes_inb g _ (by decide))))

/-- The 32 bands of the kernel stacked one under another are the dequantized weight tile. -/
theorem bands_eq (x0 X0 : Vec Ideal S32x56 .f32) (e0 : X0 = x0) (x3 X3 : Vec Ideal S4096x512 .fp8e4m3) (e3 : X3 = x3)
    (p : Fin 14) (xs : List ((s : Shape) × (s.Idx → EReal)))
    (h : xs = List.ofFn fun g : Fin 32 => (⟨S128x512, bandAt X0 X3 p g⟩ : (s : Shape) × (s.Idx → EReal)))
    (hc) :
    concatenate S4096x512 0 xs hc = fun i : S4096x512.Idx => wdeq x0 x3 p (i 0) (i 1) := by
  have hg : ∀ g : Fin 32, bandAt X0 X3 p g = fun j : S128x512.Idx =>
      wdeq x0 x3 p ⟨128 * g.val + (j 0).val, by have : (j 0).val < 128 := (j 0).isLt; omega⟩ (j 1) := fun g =>
    bandW_eq x0 X0 e0 x3 X3 e3 p g _ _ _ _ _ _ _ _ (scale_off g _ 0#32 (by decide)) (scale_off g _ 1#32 (by decide))
      (scale_off g _ 2#32 (by decide)) (scale_off g _ 3#32 (by decide)) rfl rfl rfl rfl _ _ _ _ _ _ _ _ _ _ _ _
  simp only [hg] at h
  subst h
  funext i
  obtain ⟨k, n, rfl⟩ : ∃ (k : Fin 4096) (n : Fin 512), i = ix2 k n := ⟨i 0, i 1, eq_ix2 i⟩
  refine (concatenate_ofFn_apply (t := S4096x512) (s₁ := S128x512) 0 (fun (g : Fin 32) (j : S128x512.Idx) =>
      wdeq x0 x3 p ⟨128 * g.val + (j 0).val, by have : (j 0).val < 128 := (j 0).isLt; omega⟩ (j 1))
    hc rfl 128 rfl (ix2 k n) ⟨k.val / 128, by omega⟩ rfl
    (ix2 ⟨k.val % 128, by omega⟩ n) rfl (by
      intro b hb
      match b with
      | ⟨0, _⟩ => exact absurd rfl hb
      | ⟨1, _⟩ => rfl)).trans ?_
  dsimp only [ix2_0, ix2_1]
  congr 1
  exact Fin.ext (by show 128 * (k.val / 128) + k.val % 128 = k.val; omega)

end Cert.KernelValue
-- ==== Proof.Acts.lean ====
module

public import proofs.«01_k».proof.Proof.Gen.KernelIdeal.Skeleton
public import Idealize.ShloMosaic.Lib.Pipeline.ValueKit
public import Idealize.ShloMosaic.Lib.Pipeline.ReadBack
public import Idealize.ShloMosaic.Lib.Pointwise

/-!
  The activation rows that the kernel writes into its scratch: at every index a code times the scale of its row's group.
-/

@[expose] public section

set_option maxRecDepth 16384

noncomputable section

namespace Cert.KernelValue

open Idealize.ShloMosaic Idealize.ShloMosaic.TcCoe Idealize.SL.Sem
open Cert.KernelIdeal

/-- The dequantized block of 1024 activation rows: every code times the scale of its row's group of 128 columns. -/
def xdeq (x1 : Vec Ideal S1024x4096 .fp8e4m3) (x2 : Vec Ideal S1024x32 .f32) (r : Fin 1024) (k : Fin 4096) : EReal :=
  (x1 (ix2 r k) : EReal) * (x2 (ix2 r ⟨k.val / 128, by omega⟩) : EReal)

/-- 128 columns of activation codes times one column of scales, as the kernel writes it. -/
def blockX (x2 : Vec Ideal S1024x32 .f32) (w : Vec Ideal S1024x128 .fp8e4m3) (g : Fin 32) (hs : S1024x32.Slices ![0, g.val] S1024x1) :
    FVec Ideal S1024x128 .bf16 :=
  shapeCast S1024x128
    (mulf (extf .bf16 (shapeCast S1024x128 w Gen.shapeCasts_S1024x128_S1024x128) Gen.bitsLt_fp8e4m3_bf16)
      (broadcastTo S1024x128 (extractStridedSlice S1024x1 ![0, g.val] (Gen.k0_pay3 x2) hs) Gen.broadcasts_S1024x1_S1024x128))
    Gen.shapeCasts_S1024x128_S1024x128

/-- Such a block at an index: the code there times the row's scale in column `g`. -/
theorem blockX_apply (x2 : Vec Ideal S1024x32 .f32) (w : Vec Ideal S1024x128 .fp8e4m3) (g : Fin 32) (hs) (r : Fin 1024) (n : Fin 128) :
    (blockX x2 w g hs (ix2 r n) : EReal) = (w (ix2 r n) : EReal) * (x2 (ix2 r g) : EReal) := by
  pointwise [blockX, Gen.k0_pay3]

/-- Block `g` of the dequantized activations, from a load of its 128 columns of codes: at every index of the block it is
    the dequantized activation at the place that the block's rectangle puts the index. -/
theorem blockX_eq (x1 : Vec Ideal S1024x4096 .fp8e4m3) (x2 : Vec Ideal S1024x32 .f32) (g : Fin 32) (hs) (q : Fin 2 → Nat)
    (hq : q = ![0, 128 * g.val]) (hb) (x : (Rect.unit (s := S1024x4096) q S1024x128.size hb).shape.Idx) :
    (blockX x2 (View.ld x1 (Rect.unit (s := S1024x4096) q S1024x128.size hb)) g hs x : EReal)
      = (fun i : S1024x4096.Idx => xdeq x1 x2 (i 0) (i 1)) ((Rect.unit (s := S1024x4096) q S1024x128.size hb).emb x) := by
  subst hq
  obtain ⟨r, n, rfl⟩ : ∃ (r : Fin 1024) (n : Fin 128), x = ix2 r n := ⟨x 0, x 1, eq_ix2 x⟩
  have hn : n.val < 128 := n.isLt
  have he : (Rect.unit (s := S1024x4096) ![0, 128 * g.val] S1024x128.size hb).emb (ix2 r n)
      = ix2 r ⟨128 * g.val + n.val, by omega⟩ := by
    funext a
    refine Fin.ext ((Rect.idx_unit_val _ _ _ _ _).trans ?_)
    match a with
    | ⟨0, _⟩ => exact Nat.zero_add _
    | ⟨1, _⟩ => rfl
  refine (blockX_apply x2 _ g hs r n).trans ?_
  rw [he]
  refine congrArg₂ (fun a b : EReal => a * b) (congrArg x1 he) (congrArg (fun g' : Fin 32 => x2 (ix2 r g')) (Fin.ext ?_))
  show g.val = (128 * g.val + n.val) / 128
  omega

/-- Column block `g` lies in the rows' columns. -/
theorem block_inb (g : Fin 32) : ∀ a, (![0, 128 * g.val] : Fin 2 → Nat) a + S1024x128.size a ≤ S1024x4096.size a := by
  intro a
  match a with
  | ⟨0, _⟩ => exact Nat.le_refl _
  | ⟨1, _⟩ => show 128 * g.val + 128 ≤ 4096; omega

/-- Column `g` of the scales is a slice of them. -/
theorem scale_slices (g : Fin 32) : S1024x32.Slices ![0, g.val] S1024x1 :=
  (by decide : ∀ g : Fin 32, S1024x32.Slices ![0, g.val] S1024x1) g

/-- The kernel's store of column block `g` into the scratch: where it goes, and what it stores. -/
def pieceX (x1 : Vec Ideal S1024x4096 .fp8e4m3) (x2 : Vec Ideal S1024x32 .f32) (g : Fin 32) : View.Piece (Elt Ideal) S1024x4096 .bf16 :=
  ⟨Rect.unit (s := S1024x4096) ![0, 128 * g.val] S1024x128.size (block_inb g),
    blockX x2 (View.ld x1 (Rect.unit (s := S1024x4096) ![0, 128 * g.val] S1024x128.size (block_inb g))) g (scale_slices g)⟩

/-- The 32 stores, the last one first, leave the dequantized rows. -/
theorem pieces_eq (x1 : Vec Ideal S1024x4096 .fp8e4m3) (x2 : Vec Ideal S1024x32 .f32) (L : List (View.Piece (Elt Ideal) S1024x4096 .bf16))
    (hL : L = List.ofFn fun i : Fin 32 => pieceX x1 x2 i.rev) (y : S1024x4096.Idx) (hc : ∃ p ∈ L, y ∈ p.1.set) :
    (View.canon L y : EReal) = xdeq x1 x2 (y 0) (y 1) := by
  refine (congrArg (fun K => View.canon K y) (List.append_nil L).symm).trans ?_
  refine View.canon_append_of_pieces (fun i : S1024x4096.Idx => xdeq x1 x2 (i 0) (i 1)) [] L (fun p hp x => ?_) y hc
  rw [hL] at hp
  obtain ⟨i, rfl⟩ := List.mem_ofFn.mp hp
  exact blockX_eq x1 x2 i.rev _ _ rfl _ x

end Cert.KernelValue
-- ==== Proof.Points.lean ====
module

public import proofs.«01_k».proof.Proof.Gen.KernelIdeal.Frame
public import proofs.«01_k».proof.Proof.Weights
public import proofs.«01_k».proof.Proof.Acts
public import Idealize.ShloMosaic.Lib.Pipeline.ReadBack
public import Idealize.ShloMosaic.Lib.Pipeline.ValueKit.Held

/-!
  What one grid point leaves: in the scratch the dequantized activation rows, in the output block the product plus residual.
-/

@[expose] public section

set_option maxRecDepth 16384

noncomputable section

namespace Cert.KernelValue

open Idealize.ShloMosaic Idealize.ShloMosaic.TcCoe Idealize.SL.Sem
open Idealize.ShloMosaic.Pipeline (Dat)
open Cert.KernelIdeal

variable (m : (ℓ : Loc nD τ sig) → Buf (Elt Ideal) ℓ) (c : Dev nD)

/-- The column tile of a grid point. -/
def col (t : Fin cfg0.N) : Fin 14 := grid0.coords t 1

/-- The weight operand of the product at a grid point: the dequantized tile of the point's blocks. -/
def wTile (t : Fin cfg0.N) : Vec Ideal S4096x512 .bf16 :=
  fun i => wdeq (Gen.iblk m c 0 t) (Gen.iblk m c 3 t) (col t) (i 0) (i 1)

/-- The activation operand of the product at a grid point: the dequantized rows of the point's blocks. -/
def xRows (t : Fin cfg0.N) : Vec Ideal S1024x4096 .bf16 :=
  fun i => xdeq (Gen.iblk m c 1 t) (Gen.iblk m c 2 t) (i 0) (i 1)

set_option maxHeartbeats 4000000 in
/-- At a point that is not the first of its row block: the output block is the product of the scratch that the point
    before left with the dequantized weight tile, plus the residual block. -/
theorem out_B (t : Fin cfg0.N) (h : ¬ t.val % 14 = 0) :
    (Gen.outsAt0 m c t.val t.isLt).1
      = Gen.k0_pay2 (wTile m c t) (Gen.outsAt0 m c (t.val - 1) (Nat.lt_of_le_of_lt (Nat.sub_le _ _) t.isLt)).2 (Gen.iblk m c 4 t) := by
  rw [Gen.outsAt0_B m c t h]
  frame_out
  simp only [read_unread_whole]
  refine congrArg (fun w => Gen.k0_pay2 w _ _) (bands_eq _ _ ((Gen.hs0_0 t).read_unread _) _ _ ((Gen.hs0_3 t).read_unread _) (col t) _ rfl _)

/-- The scratch is carried through such a point. -/
theorem scratch_B (t : Fin cfg0.N) (h : ¬ t.val % 14 = 0) :
    (Gen.outsAt0 m c t.val t.isLt).2 = (Gen.outsAt0 m c (t.val - 1) (Nat.lt_of_le_of_lt (Nat.sub_le _ _) t.isLt)).2 := by
  rw [Gen.outsAt0_B m c t h]
  rfl

set_option maxHeartbeats 4000000 in
/-- At the first point of a row block the scratch is filled with the dequantized activation rows. -/
theorem scratch_A (t : Fin cfg0.N) (h : t.val % 14 = 0) : (Gen.outsAt0 m c t.val t.isLt).2 = xRows m c t := by
  rw [Gen.outsAt0_A m c t h]
  frame_out
  funext y
  exact pieces_eq (Gen.iblk m c 1 t) (Gen.iblk m c 2 t) _ rfl y (View.cover_of_tiledL (s := S1024x4096) _ S1024x128.size (by sl_kernel_rfl) y)

set_option maxHeartbeats 4000000 in
/-- At the first point of a row block the output block is the same product, over the scratch just filled. -/
theorem out_A (t : Fin cfg0.N) (h : t.val % 14 = 0) :
    (Gen.outsAt0 m c t.val t.isLt).1 = Gen.k0_pay2 (wTile m c t) (Gen.outsAt0 m c t.val t.isLt).2 (Gen.iblk m c 4 t) := by
  rw [Gen.outsAt0_A m c t h]
  frame_out
  refine congrArg₂ (fun w x => Gen.k0_pay2 w x _) (bands_eq _ _ ((Gen.hs0_0 t).read_unread _) _ _ ((Gen.hs0_3 t).read_unread _) (col t) _ rfl _) ?_
  rw [View.readCov_eq_canon']
  funext j
  refine congrArg (View.canon _) (funext fun a => Fin.ext ?_)
  refine (Rect.idx_unit_val _ _ _ _ _).trans ?_
  match a with
  | ⟨0, _⟩ => exact Nat.zero_add _
  | ⟨1, _⟩ => exact Nat.zero_add _

end Cert.KernelValue
-- ==== Proof.Dense.lean ====
module

public import Idealize.ShloMosaic.Lib.Pipeline.ValueKit

/-!
  The mathematics of the problem, over plain index functions: both programs are shown to return it.
-/

@[expose] public section

noncomputable section

namespace Cert.DenseValue

/-- The dense layer at batch `b`, position `s` and column `n`: the sum over the 4096 inputs of the dequantized activation
    (a code times the scale of its group of 128 inputs) times the dequantized weight (a code times the scale of its 128 by
    128 block), plus the residual. -/
def dense (x : Fin 2 → Fin 8192 → Fin 4096 → EReal) (sx : Fin 2 → Fin 8192 → Fin 32 → EReal) (w : Fin 4096 → Fin 7168 → EReal)
    (sw : Fin 32 → Fin 56 → EReal) (z : Fin 2 → Fin 8192 → Fin 7168 → EReal) (b : Fin 2) (s : Fin 8192) (n : Fin 7168) : EReal :=
  (∑ k : Fin 4096, (x b s k * sx b s ⟨k.val / 128, by omega⟩)
    * (w k n * sw ⟨k.val / 128, by omega⟩ ⟨n.val / 128, by omega⟩)) + z b s n

/-- The dense layer of equal operands is equal. -/
theorem dense_congr {x x' : Fin 2 → Fin 8192 → Fin 4096 → EReal} {sx sx' : Fin 2 → Fin 8192 → Fin 32 → EReal}
    {w w' : Fin 4096 → Fin 7168 → EReal} {sw sw' : Fin 32 → Fin 56 → EReal} {z z' : Fin 2 → Fin 8192 → Fin 7168 → EReal}
    (hx : ∀ b s k, x b s k = x' b s k) (hsx : ∀ b s g, sx b s g = sx' b s g) (hw : ∀ k n, w k n = w' k n)
    (hsw : ∀ g l, sw g l = sw' g l) (hz : ∀ b s n, z b s n = z' b s n) (b : Fin 2) (s : Fin 8192) (n : Fin 7168) :
    dense x sx w sw z b s n = dense x' sx' w' sw' z' b s n := by
  unfold dense
  simp only [hx, hsx, hw, hsw, hz]

/-- The batch of a row of the flattened activations. -/
def rowBatch (R : Fin 16384) : Fin 2 := ⟨R.val / 8192, by omega⟩

/-- The position of a row of the flattened activations within its batch. -/
def rowSeq (R : Fin 16384) : Fin 8192 := ⟨R.val % 8192, by omega⟩

end Cert.DenseValue
-- ==== Proof.Kernel.lean ====
module

public import proofs.«01_k».proof.Proof.Gen.KernelIdeal.Frame
public import proofs.«01_k».proof.Proof.Weights
public import proofs.«01_k».proof.Proof.Acts
public import proofs.«01_k».proof.Proof.Points
public import proofs.«01_k».proof.Proof.Dense
public import Idealize.ShloMosaic.Lib.Pipeline.ValueKit
public import Idealize.ShloMosaic.Lib.Tactic.CleanTypes
public import Idealize.ShloMosaic.Lib.Pipeline.ReadBack
public import Idealize.ShloMosaic.Lib.Pipeline.ValueKit.Held

/-!
  What the kernel returns: the dense layer of the problem, index by index. The input blocks are read as parts of the
  arguments, the output array is put together from the output blocks, and the final reshape is read at an index.
-/

@[expose] public section

set_option maxRecDepth 16384

noncomputable section

namespace Cert.KernelValue

open Idealize.ShloMosaic Idealize.ShloMosaic.TcCoe Idealize.SL.Sem
open Idealize.ShloMosaic.Pipeline (Dat)
open Cert.KernelIdeal
open Cert.DenseValue

variable (m : (ℓ : Loc nD τ sig) → Buf (Elt Ideal) ℓ) (c : Dev nD)

/-- Where the windows' blocks lie: the row block is the point's position over 14, the column tile the remainder. -/
theorem idx (t : Fin cfg0.N) : win0_0.index t = ![0, 0] ∧ win0_1.index t = ![t.val / 14, 0] ∧ win0_2.index t = ![t.val / 14, 0]
    ∧ win0_3.index t = ![0, t.val % 14] ∧ win0_4.index t = ![t.val / 14, t.val % 14] ∧ win0_5.index t = ![t.val / 14, t.val % 14]
    ∧ (col t).val = t.val % 14 :=
  (by decide +kernel : ∀ t : Fin grid0.N, win0_0.index t = ![0, 0] ∧ win0_1.index t = ![t.val / 14, 0] ∧ win0_2.index t = ![t.val / 14, 0]
    ∧ win0_3.index t = ![0, t.val % 14] ∧ win0_4.index t = ![t.val / 14, t.val % 14] ∧ win0_5.index t = ![t.val / 14, t.val % 14]
    ∧ (grid0.coords t 1).val = t.val % 14) t

/-- Argument 0 flattened to two axes, at an index. -/
theorem flat0 (R : Fin 16384) (k : Fin 4096) (b : Fin 2) (s : Fin 8192) (h : b.val * 8192 + s.val = R.val) :
    (Gen.V m c main_v0 (ix2 R k) : EReal) = (m (c.tc.loc main_arg0) (ix3 b s k) : EReal) := by
  unfold_abbrev_sides
  simp only [List.flatten_cons, List.flatten_nil, List.append_nil]
  after_results
  clean_types
  pointwise
  refine congrArg (m (c.tc.loc main_arg0)) ?_
  blk_ext

/-- Argument 1 flattened to two axes, at an index. -/
theorem flat1 (R : Fin 16384) (k : Fin 32) (b : Fin 2) (s : Fin 8192) (h : b.val * 8192 + s.val = R.val) :
    (Gen.V m c main_v1 (ix2 R k) : EReal) = (m (c.tc.loc main_arg1) (ix3 b s k) : EReal) := by
  unfold_abbrev_sides
  simp only [List.flatten_cons, List.flatten_nil, List.append_nil]
  after_results
  clean_types
  pointwise
  refine congrArg (m (c.tc.loc main_arg1)) ?_
  blk_ext

/-- Argument 4 flattened to two axes, at an index. -/
theorem flat4 (R : Fin 16384) (k : Fin 7168) (b : Fin 2) (s : Fin 8192) (h : b.val * 8192 + s.val = R.val) :
    (Gen.V m c main_v2 (ix2 R k) : EReal) = (m (c.tc.loc main_arg4) (ix3 b s k) : EReal) := by
  unfold_abbrev_sides
  simp only [List.flatten_cons, List.flatten_nil, List.append_nil]
  after_results
  clean_types
  pointwise
  refine congrArg (m (c.tc.loc main_arg4)) ?_
  blk_ext

/-- The code block of a point: rows of the first argument. -/
theorem block1 (t : Fin cfg0.N) (r : Fin 1024) (k : Fin 4096) (b : Fin 2) (s : Fin 8192) (h : b.val * 8192 + s.val = t.val / 14 * 1024 + r.val) :
    (Gen.iblk m c 1 t (ix2 r k) : EReal) = (m (c.tc.loc main_arg0) (ix3 b s k) : EReal) := by
  have ht : t.val < 224 := Gen.N_0 ▸ t.isLt
  have hr : r.val < 1024 := r.isLt
  obtain ⟨e0, e1, e2, e3, e4, e5, ec⟩ := idx t
  have he : (win0_1.blk t).view.emb (ix2 r k) = ix2 ⟨t.val / 14 * 1024 + r.val, by omega⟩ k := by blk_ext [e1]
  exact (congrArg (Gen.V m c main_v0) he).trans (flat0 m c _ k b s h)

/-- The activation scale block of a point. -/
theorem block2 (t : Fin cfg0.N) (r : Fin 1024) (k : Fin 32) (b : Fin 2) (s : Fin 8192) (h : b.val * 8192 + s.val = t.val / 14 * 1024 + r.val) :
    (Gen.iblk m c 2 t (ix2 r k) : EReal) = (m (c.tc.loc main_arg1) (ix3 b s k) : EReal) := by
  have ht : t.val < 224 := Gen.N_0 ▸ t.isLt
  have hr : r.val < 1024 := r.isLt
  obtain ⟨e0, e1, e2, e3, e4, e5, ec⟩ := idx t
  have he : (win0_2.blk t).view.emb (ix2 r k) = ix2 ⟨t.val / 14 * 1024 + r.val, by omega⟩ k := by blk_ext [e2]
  exact (congrArg (Gen.V m c main_v1) he).trans (flat1 m c _ k b s h)

/-- The residual block of a point. -/
theorem block4 (t : Fin cfg0.N) (r : Fin 1024) (n : Fin 512) (b : Fin 2) (s : Fin 8192) (N : Fin 7168)
    (h : b.val * 8192 + s.val = t.val / 14 * 1024 + r.val) (hN : N.val = t.val % 14 * 512 + n.val) :
    (Gen.iblk m c 4 t (ix2 r n) : EReal) = (m (c.tc.loc main_arg4) (ix3 b s N) : EReal) := by
  have ht : t.val < 224 := Gen.N_0 ▸ t.isLt
  have hr : r.val < 1024 := r.isLt
  obtain ⟨e0, e1, e2, e3, e4, e5, ec⟩ := idx t
  have he : (win0_4.blk t).view.emb (ix2 r n) = ix2 ⟨t.val / 14 * 1024 + r.val, by omega⟩ N := by blk_ext [e4]
  exact (congrArg (Gen.V m c main_v2) he).trans (flat4 m c _ N b s h)

/-- The weight code block of a point. -/
theorem block3 (t : Fin cfg0.N) (k : Fin 4096) (n : Fin 512) (N : Fin 7168) (hN : N.val = t.val % 14 * 512 + n.val) :
    (Gen.iblk m c 3 t (ix2 k n) : EReal) = (m (c.tc.loc main_arg2) (ix2 k N) : EReal) := by
  obtain ⟨e0, e1, e2, e3, e4, e5, ec⟩ := idx t
  blk_simp [Gen.iblk, e3]
  entry_read
  blk_ext [e3]

/-- The weight scale block of a point: the whole scale array. -/
theorem block0 (t : Fin cfg0.N) (a : Fin 32) (b : Fin 56) :
    (Gen.iblk m c 0 t (ix2 a b) : EReal) = (m (c.tc.loc main_arg3) (ix2 a b) : EReal) := by
  obtain ⟨e0, e1, e2, e3, e4, e5, ec⟩ := idx t
  blk_simp [Gen.iblk, e0]
  entry_read
  blk_ext [e0]

/-- The product of a point at an index. -/
theorem pay2_apply (w : Vec Ideal S4096x512 .bf16) (x : Vec Ideal S1024x4096 .bf16) (z : Vec Ideal S1024x512 .bf16)
    (r : Fin 1024) (n : Fin 512) :
    (Gen.k0_pay2 w x z (ix2 r n) : EReal) = (∑ k : Fin 4096, (x (ix2 r k) : EReal) * (w (ix2 k n) : EReal)) + (z (ix2 r n) : EReal) := by
  pointwise [Gen.k0_pay2]

/-- The activation operand is the same at all points of a row block. -/
theorem xRows_congr (t u : Fin cfg0.N) (h : u.val / 14 = t.val / 14) : xRows m c u = xRows m c t := by
  funext i
  have ht : t.val < 224 := Gen.N_0 ▸ t.isLt
  obtain ⟨r, k, rfl⟩ : ∃ (r : Fin 1024) (k : Fin 4096), i = ix2 r k := ⟨i 0, i 1, eq_ix2 i⟩
  have hr : r.val < 1024 := r.isLt
  obtain ⟨b, s, hbs⟩ : ∃ (b : Fin 2) (s : Fin 8192), b.val * 8192 + s.val = t.val / 14 * 1024 + r.val :=
    ⟨⟨(t.val / 14 * 1024 + r.val) / 8192, by omega⟩, ⟨(t.val / 14 * 1024 + r.val) % 8192, by omega⟩, Nat.div_add_mod' _ _⟩
  have hbu : b.val * 8192 + s.val = u.val / 14 * 1024 + r.val := by omega
  refine congrArg₂ (fun a b : EReal => a * b) ?_ ?_
  · exact (block1 m c u r k b s hbu).trans (block1 m c t r k b s hbs).symm
  · exact (block2 m c u r _ b s hbu).trans (block2 m c t r _ b s hbs).symm

/-- The scratch at every point of a row block: the dequantized rows written at its first point. -/
theorem scratch_eq (t : Fin cfg0.N) : (Gen.outsAt0 m c t.val t.isLt).2 = xRows m c t := by
  funext i
  refine (Pipeline.eq_of_write_hold_apply (fun n h => (Gen.outsAt0 m c n h).2) 14 (xRows m c)
    (fun t h i => congrFun (scratch_A m c t h) i) (fun t h i => congrFun (scratch_B m c t h) i) t i).trans ?_
  exact congrFun (xRows_congr m c t _ (Nat.mul_div_cancel_left _ (by decide))) i

/-- The output block of every point. -/
theorem out_eq (t : Fin cfg0.N) :
    (Gen.outsAt0 m c t.val t.isLt).1 = Gen.k0_pay2 (wTile m c t) (xRows m c t) (Gen.iblk m c 4 t) := by
  by_cases h : t.val % 14 = 0
  · rw [out_A m c t h, scratch_eq]
  · rw [out_B m c t h, ← scratch_B m c t h, scratch_eq]

/-- The output block of a point at an index, over the arguments. -/
theorem out_apply (t : Fin cfg0.N) (r : Fin 1024) (n : Fin 512) (b : Fin 2) (s : Fin 8192) (N : Fin 7168)
    (h : b.val * 8192 + s.val = t.val / 14 * 1024 + r.val) (hN : N.val = t.val % 14 * 512 + n.val) :
    ((Gen.outsAt0 m c t.val t.isLt).1 (ix2 r n) : EReal)
      = dense (fun b s k => m (c.tc.loc main_arg0) (ix3 b s k)) (fun b s g => m (c.tc.loc main_arg1) (ix3 b s g))
          (fun k n => m (c.tc.loc main_arg2) (ix2 k n)) (fun g l => m (c.tc.loc main_arg3) (ix2 g l))
          (fun b s n => m (c.tc.loc main_arg4) (ix3 b s n)) b s N := by
  have hn : n.val < 512 := n.isLt
  refine (congrFun (out_eq m c t) (ix2 r n)).trans ((pay2_apply _ _ _ r n).trans ?_)
  refine congrArg₂ (fun a b : EReal => a + b) (Finset.sum_congr rfl fun k _ => ?_) (block4 m c t r n b s N h hN)
  refine congrArg₂ (fun a b : EReal => a * b) ?_ ?_
  · exact congrArg₂ (fun a b : EReal => a * b) (block1 m c t r k b s h) (block2 m c t r _ b s h)
  · refine congrArg₂ (fun a b : EReal => a * b) (block3 m c t k n N hN) ((block0 m c t _ _).trans ?_)
    refine congrArg (fun l : Fin 56 => (m (c.tc.loc main_arg3) (ix2 ⟨k.val / 128, by omega⟩ l) : EReal)) (Fin.ext ?_)
    show (col t).val * 4 + n.val / 128 = N.val / 128
    rw [(idx t).2.2.2.2.2.2]
    omega

/-- The kernel's output array, flattened rows by columns. -/
theorem array_eq : (Gen.dats m 0 c).arrAt 5 (cfgs 0).N = fun j : S16384x7168.Idx =>
    (dense (fun b s k => m (c.tc.loc main_arg0) (ix3 b s k)) (fun b s g => m (c.tc.loc main_arg1) (ix3 b s g))
          (fun k n => m (c.tc.loc main_arg2) (ix2 k n)) (fun g l => m (c.tc.loc main_arg3) (ix2 g l))
          (fun b s n => m (c.tc.loc main_arg4) (ix3 b s n)) (rowBatch (j 0)) (rowSeq (j 0)) (j 1) : EReal) := by
  refine (Gen.dats m 0 c).arrAt_eq_of_covers 5 _ (by decide +kernel) fun t hf y => ?_
  blk_simp
  rw [Gen.after0_5]
  obtain ⟨r, n, rfl⟩ : ∃ (r : Fin 1024) (n : Fin 512), y = ix2 r n := ⟨y 0, y 1, eq_ix2 y⟩
  obtain ⟨e0, e1, e2, e3, e4, e5, ec⟩ := idx t
  have ht : t.val < 224 := Gen.N_0 ▸ t.isLt
  have hr : r.val < 1024 := r.isLt
  have hn : n.val < 512 := n.isLt
  have he : (win0_5.blk t).view.emb (ix2 r n) = ix2 ⟨t.val / 14 * 1024 + r.val, by omega⟩ ⟨t.val % 14 * 512 + n.val, by omega⟩ := by
    blk_ext [e5]
  rw [he]
  exact out_apply m c t r n _ _ _ (Nat.div_add_mod' _ _) rfl

/-- What @main returns: the same, at batch, position and column. -/
theorem result_eq (b : Fin 2) (s : Fin 8192) (n : Fin 7168) :
    (Pipeline.afterTail₀ cfgs (Gen.dats m) 0 (Gen.V0 m) [Gen.hostOps1] c main_v4 (ix3 b s n) : EReal)
      = dense (fun b s k => m (c.tc.loc main_arg0) (ix3 b s k)) (fun b s g => m (c.tc.loc main_arg1) (ix3 b s g))
          (fun k n => m (c.tc.loc main_arg2) (ix2 k n)) (fun g l => m (c.tc.loc main_arg3) (ix2 g l))
          (fun b s n => m (c.tc.loc main_arg4) (ix3 b s n)) b s n := by
  have hs : s.val < 8192 := s.isLt
  unfold Pipeline.afterTail₀
  simp only [List.flatten_cons, List.flatten_nil, List.append_nil]
  after_results
  clean_types
  pointwise
  have h3 := (Pipeline.withArrays_arr (cfgs 0).spec Gen.winFacts0.arr_inj c (Gen.V0 m c)
    (fun w => (Gen.dats m 0 c).arrAt w (cfgs 0).N) 5).trans (array_eq m c)
  refine (congrFun h3 (ix2 ⟨b.val * 8192 + s.val, by omega⟩ n)).trans ?_
  have hb : rowBatch ⟨b.val * 8192 + s.val, by omega⟩ = b := Fin.ext (by show (b.val * 8192 + s.val) / 8192 = b.val; omega)
  have hq : rowSeq ⟨b.val * 8192 + s.val, by omega⟩ = s := Fin.ext (by show (b.val * 8192 + s.val) % 8192 = s.val; omega)
  exact congrArg₂ (fun b s => dense _ _ _ _ _ b s n) hb hq

/-- The run: @main ends with the dense layer over the arguments in its result, and the arguments unchanged. -/
theorem run (ρ : Dev nD → PrngReg) :
    θ_run defs (onTc (τ := τ) (main (F := Ideal))) ⟨m, fun _ => 0, ρ⟩ (fun r => ∀ c : Dev nD,
      (∀ b s n, (r.2.mem ((c.tc : Thread nD τ).loc main_v4) (ix3 b s n) : EReal)
        = dense (fun b s k => m (c.tc.loc main_arg0) (ix3 b s k)) (fun b s g => m (c.tc.loc main_arg1) (ix3 b s g))
          (fun k n => m (c.tc.loc main_arg2) (ix2 k n)) (fun g l => m (c.tc.loc main_arg3) (ix2 g l))
          (fun b s n => m (c.tc.loc main_arg4) (ix3 b s n)) b s n)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨fun b s n =>
      (congrFun ((h.2 c).2 main_v4 (Pipeline.mem_restRefs_of main_v4 (by decide) (by decide))) (ix3 b s n)).trans (result_eq m c b s n), h.1 c⟩)
    (θ_run_and (Gen.unchanged m ρ) (Gen.run_main m ρ))

end Cert.KernelValue
-- ==== Proof.Reference.lean ====
module

public import proofs.«01_k».proof.Proof.Gen.ReferenceIdeal.Frame
public import proofs.«01_k».proof.Proof.Dense
public import Idealize.ShloMosaic.Lib.Pipeline.ValueKit
public import Idealize.ShloMosaic.Lib.Tactic.CleanTypes

/-!
  What the reference returns: the dense layer of the problem, index by index.
-/

@[expose] public section

set_option maxRecDepth 16384

noncomputable section

namespace Cert.ReferenceValue

open Idealize.ShloMosaic Idealize.ShloMosaic.TcCoe Idealize.SL.Sem
open Idealize.ShloMosaic.Pipeline (Dat)
open Cert.ReferenceIdeal
open Cert.DenseValue

/-- The host operations after the region, at an index of the result: the dense layer over what the buffers held before them. -/
theorem tail_apply (W : Valuation τ sig (Elt Ideal)) (b : Fin 2) (s : Fin 8192) (n : Fin 7168) :
    (StableHlo.after (List.flatten [Gen.hostOps1]) W (Proc.devRef .tc main_v16) (ix3 b s n) : EReal)
      = dense (fun b s k => W (Proc.devRef .tc main_v0_0) (ix3 b s k)) (fun b s g => W (Proc.devRef .tc main_arg1) (ix3 b s g))
          (fun k n => W (Proc.devRef .tc main_v0_1) (ix2 k n)) (fun g l => W (Proc.devRef .tc main_arg3) (ix2 g l))
          (fun b s n => W (Proc.devRef .tc main_arg4) (ix3 b s n)) b s n := by
  unfold_abbrev_sides
  simp only [List.flatten_cons, List.flatten_nil, List.append_nil]
  after_results
  clean_types
  pointwise
  have hk (k : Nat) : k / 128 * 128 + k % 128 = k := Nat.div_add_mod' _ _
  refine congrArg₂ (fun a b : EReal => a + b) (Finset.sum_congr rfl fun k _ => ?_) rfl
  refine congrArg₂ (fun a b : EReal => a * b) ?_ ?_
  · refine congrArg₂ (fun a b : EReal => a * b) ?_ rfl
    exact congrArg (fun k' : Fin 4096 => W (Proc.devRef .tc main_v0_0) (ix3 b s k')) (Fin.ext (hk _))
  · refine congrArg₂ (fun a b : EReal => a * b) ?_ rfl
    exact congrArg₂ (fun (k' : Fin 4096) (n' : Fin 7168) => W (Proc.devRef .tc main_v0_1) (ix2 k' n')) (Fin.ext (hk _)) (Fin.ext (hk _))

variable (m : (ℓ : Loc nD τ sig) → Buf (Elt Ideal) ℓ) (c : Dev nD)

/-- The one point's blocks are the whole arrays. -/
theorem idx (t : Fin cfg0.N) : win0_0.index t = ![0, 0, 0] ∧ win0_1.index t = ![0, 0] ∧ win0_2.index t = ![0, 0, 0] ∧ win0_3.index t = ![0, 0] :=
  (by decide +kernel : ∀ t : Fin grid0.N, win0_0.index t = ![0, 0, 0] ∧ win0_1.index t = ![0, 0] ∧ win0_2.index t = ![0, 0, 0]
    ∧ win0_3.index t = ![0, 0]) t

/-- The region's first result: the activation codes, unchanged by the casts. -/
theorem array_x : (Gen.dats m 0 c).arrAt 2 (cfgs 0).N = fun j : S2x8192x4096.Idx => (m (c.tc.loc main_arg0) j : EReal) := by
  refine (Gen.dats m 0 c).arrAt_eq_of_covers 2 _ (by decide +kernel) fun t hf y => ?_
  obtain ⟨e0, e1, e2, e3⟩ := idx t
  blk_simp
  rw [Gen.after0_2]
  frame_out
  show (Gen.iblk m c 0 t y : EReal) = _
  blk_ext [Gen.iblk, e0, e2]

/-- The region's second result: the weight codes, unchanged by the casts. -/
theorem array_w : (Gen.dats m 0 c).arrAt 3 (cfgs 0).N = fun j : S4096x7168.Idx => (m (c.tc.loc main_arg2) j : EReal) := by
  refine (Gen.dats m 0 c).arrAt_eq_of_covers 3 _ (by decide +kernel) fun t hf y => ?_
  obtain ⟨e0, e1, e2, e3⟩ := idx t
  blk_simp
  rw [Gen.after0_3]
  frame_out
  show (Gen.iblk m c 1 t y : EReal) = _
  blk_ext [Gen.iblk, e1, e3]

/-- What @main returns: the dense layer over the arguments. -/
theorem result_eq (b : Fin 2) (s : Fin 8192) (n : Fin 7168) :
    (Pipeline.afterTail₀ cfgs (Gen.dats m) 0 (Gen.V0 m) [Gen.hostOps1] c main_v16 (ix3 b s n) : EReal)
      = dense (fun b s k => m (c.tc.loc main_arg0) (ix3 b s k)) (fun b s g => m (c.tc.loc main_arg1) (ix3 b s g))
          (fun k n => m (c.tc.loc main_arg2) (ix2 k n)) (fun g l => m (c.tc.loc main_arg3) (ix2 g l))
          (fun b s n => m (c.tc.loc main_arg4) (ix3 b s n)) b s n := by
  unfold Pipeline.afterTail₀
  refine (tail_apply _ b s n).trans ?_
  have h0 := (Pipeline.withArrays_arr (cfgs 0).spec Gen.winFacts0.arr_inj c (Gen.V0 m c) (fun w => (Gen.dats m 0 c).arrAt w (cfgs 0).N) 2).trans (array_x m c)
  have h1 := (Pipeline.withArrays_arr (cfgs 0).spec Gen.winFacts0.arr_inj c (Gen.V0 m c) (fun w => (Gen.dats m 0 c).arrAt w (cfgs 0).N) 3).trans (array_w m c)
  have a1 := Pipeline.withArrays_of_ne (cfgs 0).spec c (Gen.V0 m c) (fun w => (Gen.dats m 0 c).arrAt w (cfgs 0).N) main_arg1 (by decide)
  have a3 := Pipeline.withArrays_of_ne (cfgs 0).spec c (Gen.V0 m c) (fun w => (Gen.dats m 0 c).arrAt w (cfgs 0).N) main_arg3 (by decide)
  have a4 := Pipeline.withArrays_of_ne (cfgs 0).spec c (Gen.V0 m c) (fun w => (Gen.dats m 0 c).arrAt w (cfgs 0).N) main_arg4 (by decide)
  exact dense_congr (fun b s k => congrFun h0 (ix3 b s k)) (fun b s g => congrFun a1 (ix3 b s g)) (fun k n => congrFun h1 (ix2 k n))
    (fun g l => congrFun a3 (ix2 g l)) (fun b s n => congrFun a4 (ix3 b s n)) b s n

/-- The run: @main ends with the dense layer over the arguments in its result, and the arguments unchanged. -/
theorem run (ρ : Dev nD → PrngReg) :
    θ_run defs (onTc (τ := τ) (main (F := Ideal))) ⟨m, fun _ => 0, ρ⟩ (fun r => ∀ c : Dev nD,
      (∀ b s n, (r.2.mem ((c.tc : Thread nD τ).loc main_v16) (ix3 b s n) : EReal)
        = dense (fun b s k => m (c.tc.loc main_arg0) (ix3 b s k)) (fun b s g => m (c.tc.loc main_arg1) (ix3 b s g))
          (fun k n => m (c.tc.loc main_arg2) (ix2 k n)) (fun g l => m (c.tc.loc main_arg3) (ix2 g l))
          (fun b s n => m (c.tc.loc main_arg4) (ix3 b s n)) b s n)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨fun b s n =>
      (congrFun ((h.2 c).2 main_v16 (Pipeline.mem_restRefs_of main_v16 (by decide) (by decide))) (ix3 b s n)).trans (result_eq m c b s n), h.1 c⟩)
    (θ_run_and (Gen.unchanged m ρ) (Gen.run_main m ρ))

end Cert.ReferenceValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel and the reference return the same array: both return the dense layer of the problem over their arguments. -/
theorem same_result : Cert.algebraic_KernelIdeal_ReferenceIdeal (hKernelIdeal := Cert.KernelIdeal.Gen.facts)
    (hReferenceIdeal := Cert.ReferenceIdeal.Gen.facts) := by
  intro m g m' g' _ hagree
  refine ⟨fun c i => (Cert.DenseValue.dense
      (fun b s k => m (c.tc.loc Cert.KernelIdeal.main_arg0) (ix3 b s k)) (fun b s l => m (c.tc.loc Cert.KernelIdeal.main_arg1) (ix3 b s l))
      (fun k n => m (c.tc.loc Cert.KernelIdeal.main_arg2) (ix2 k n)) (fun l q => m (c.tc.loc Cert.KernelIdeal.main_arg3) (ix2 l q))
      (fun b s n => m (c.tc.loc Cert.KernelIdeal.main_arg4) (ix3 b s n)) (i 0) (i 1) (i 2) : EReal), ?_, ?_⟩
  · refine (θ_run _ _ _).mono (fun r h c => ⟨?_, (h c).2⟩) (Cert.KernelValue.run m g)
    funext i
    exact (congrArg (r.2.mem _) (eq_ix3 i)).trans ((h c).1 (i 0) (i 1) (i 2))
  · refine (θ_run _ _ _).mono (fun r h c => ⟨?_, (h c).2⟩) (Cert.ReferenceValue.run m' g')
    funext i
    obtain ⟨e0, e1, e2, e3, e4⟩ := hagree c
    refine (congrArg (r.2.mem _) (eq_ix3 i)).trans (((h c).1 (i 0) (i 1) (i 2)).trans ?_)
    exact Cert.DenseValue.dense_congr (fun b s k => congrFun e0 (ix3 b s k)) (fun b s l => congrFun e1 (ix3 b s l))
      (fun k n => congrFun e2 (ix2 k n)) (fun l q => congrFun e3 (ix2 l q)) (fun b s n => congrFun e4 (ix3 b s n)) _ _ _

/-- The certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, same_result⟩

end Cert.Proof

end
